-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform [hPre_uniform : Cert.Pre_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform [hPre_uniform : Cert.Pre_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_uniform [hKernelIdeal : Cert.KernelIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_uniform [hReferenceIdeal : Cert.ReferenceIdeal.Facts] [hPre_uniform : Cert.Pre_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_uniform [hKernelIdeal : Cert.KernelIdeal.Facts] [hReferenceIdeal : Cert.ReferenceIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_uniform : Cert.Pre_uniform.Facts),
    quiescent_Kernel (hKernel := hKernel)
    ∧ quiescent_KernelIdeal (hKernelIdeal := hKernelIdeal)
    ∧ quiescent_KernelIdeal_pre_uniform (hKernelIdeal := hKernelIdeal) (hPre_uniform := hPre_uniform)
    ∧ quiescent_ReferenceIdeal (hReferenceIdeal := hReferenceIdeal)
    ∧ quiescent_ReferenceIdeal_pre_uniform (hReferenceIdeal := hReferenceIdeal) (hPre_uniform := hPre_uniform)
    ∧ preserves_Kernel_KernelIdeal
    ∧ algebraic_KernelIdeal_ReferenceIdeal_pre_uniform (hKernelIdeal := hKernelIdeal) (hReferenceIdeal := hReferenceIdeal) (hPre_uniform := hPre_uniform)
-- ==== Pre_uniform.lean ====
abbrev S8192x256 : Shape := ⟨2, ![8192, 256]⟩
abbrev S2x131072 : Shape := ⟨2, ![2, 131072]⟩
abbrev S8192 : Shape := ⟨1, ![8192]⟩
abbrev S_ : Shape := ⟨0, ![]⟩
abbrev S32x256 : Shape := ⟨2, ![32, 256]⟩
abbrev S1x8192 : Shape := ⟨2, ![1, 8192]⟩
abbrev S2x8192 : Shape := ⟨2, ![2, 8192]⟩

class Facts : Prop where
  shapeCasts_S32x256_S8192 : S32x256.ShapeCasts S8192
  bcast_S8192_S1x8192_1 : S8192.BroadcastsInDim S1x8192 (![1] : Fin 1 → Fin S1x8192.rank)
  concatenates_S1x8192_S1x8192_S2x8192_d0 : Shape.Concatenates [S1x8192, S1x8192] S2x8192 0

variable [Facts]

def fn {F : FTy → Type} [FloatOps F] (main_arg0 : FVec F S8192x256 .f32) (main_arg1 : IVec S2x131072 32) (main_arg2 : IVec S8192 32) (main_arg3 : FVec F S8192x256 .f32) (main_arg4 : IVec S2x131072 32) (main_arg5 : IVec S8192 32) (main_arg6 : IVec S_ 32) (main_arg7 : IVec S_ 32) : IVec S2x8192 1 :=
  let main_v0 : IVec S32x256 32 := iotaInDim S32x256 32 0
  let main_v1 : IVec S8192 32 := shapeCast S8192 main_v0 shapeCasts_S32x256_S8192
  let main_v2 : IVec S8192 1 := cmpi .eq main_arg2 main_v1
  let main_v3 : IVec S8192 1 := cmpi .eq main_arg5 main_v1
  let main_v4 : IVec S1x8192 1 := broadcastInDim S1x8192 ![1] bcast_S8192_S1x8192_1 main_v2
  let main_v5 : IVec S1x8192 1 := broadcastInDim S1x8192 ![1] bcast_S8192_S1x8192_1 main_v3
  let main_v6 : IVec S2x8192 1 := (fun a b => concatenate S2x8192 0 [⟨S1x8192, a⟩, ⟨S1x8192, b⟩] concatenates_S1x8192_S1x8192_S2x8192_d0) main_v4 main_v5
  main_v6
-- ==== Kernel.lean ====
abbrev S8192x256 : Shape := ⟨2, ![8192, 256]⟩
abbrev S2x131072 : Shape := ⟨2, ![2, 131072]⟩
abbrev S8192 : Shape := ⟨1, ![8192]⟩
abbrev S_ : Shape := ⟨0, ![]⟩
abbrev S2048x256 : Shape := ⟨2, ![2048, 256]⟩
abbrev S256x256 : Shape := ⟨2, ![256, 256]⟩

abbrev nBuf : Space → Nat
  | .hbm => 9
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S2x131072, .i32⟩
  | .hbm, ⟨2, _⟩ => ⟨S8192, .i32⟩
  | .hbm, ⟨3, _⟩ => ⟨S8192x256, .f32⟩
  | .hbm, ⟨4, _⟩ => ⟨S2x131072, .i32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x256 : Shape := ⟨2, ![8192, 256]⟩
abbrev S2x131072 : Shape := ⟨2, ![2, 131072]⟩
abbrev S8192 : Shape := ⟨1, ![8192]⟩
abbrev S_ : Shape := ⟨0, ![]⟩
abbrev S32x256x256 : Shape := ⟨3, ![32, 256, 256]⟩
abbrev S8192x1 : Shape := ⟨2, ![8192, 1]⟩
abbrev S8192x2 : Shape := ⟨2, ![8192, 2]⟩
abbrev S32x256 : Shape := ⟨2, ![32, 256]⟩
abbrev S1x131072 : Shape := ⟨2, ![1, 131072]⟩
abbrev S131072 : Shape := ⟨1, ![131072]⟩
abbrev S131072x1 : Shape := ⟨2, ![131072, 1]⟩
abbrev S131072x3 : Shape := ⟨2, ![131072, 3]⟩
abbrev S32 : Shape := ⟨1, ![32]⟩
abbrev S1 : Shape := ⟨1, ![1]⟩
abbrev S31 : Shape := ⟨1, ![31]⟩
abbrev S32x1 : Shape := ⟨2, ![32, 1]⟩
abbrev S1x1 : Shape := ⟨2, ![1, 1]⟩

abbrev nBuf : Space → Nat
  | .hbm => 297
  | .vmem => 0
  | .smem => 0
  | _ => 0

abbrev hbmTy0_0 (i : Nat) : BufTy := match i % 128 with
  | 0 => ⟨S8192x256, .f32⟩
  | 1 => ⟨S2x131072, .i32⟩
  | 2 => ⟨S8192, .i32⟩
  | 3 => ⟨S8192x256, .f32⟩
  | 4 => ⟨S2x131072, .i32⟩
  | 5 => ⟨S8192, .i32⟩
  | 6 => ⟨S_, .i32⟩
  | 7 => ⟨S_, .i32⟩
  | 8 => ⟨S8192, .i32⟩
  | 9 => ⟨S_, .i32⟩
  | 10 => ⟨S8192, .i32⟩
  | 11 => ⟨S8192, .i32⟩
  | 12 => ⟨S8192, .i32⟩
  | 13 => ⟨S_, .f32⟩
  | 14 => ⟨S32x256x256, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x1, .i32⟩
  | 31 => ⟨S8192x2, .i32⟩
  | 32 => ⟨S32x256x256, .f32⟩
  | 33 => ⟨S_, .i1⟩
  | 34 => ⟨S32x256, .i1⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x1, .i32⟩
  | 51 => ⟨S8192x2, .i32⟩
  | 52 => ⟨S_, .i1⟩
  | 53 => ⟨S8192, .i1⟩
  | 54 => ⟨S32x256, .i1⟩
  | 55 => ⟨S8192, .i32⟩
  | 56 => ⟨S_, .i32⟩
  | 57 => ⟨S8192, .i32⟩
  | 58 => ⟨S8192, .i32⟩
  | 59 => ⟨S8192, .i32⟩
  | 60 => ⟨S_, .f32⟩
  | 61 => ⟨S32x256x256, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x1, .i32⟩
  | 78 => ⟨S8192x2, .i32⟩
  | 79 => ⟨S32x256x256, .f32⟩
  | 80 => ⟨S_, .i1⟩
  | 81 => ⟨S32x256, .i1⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x1, .i32⟩
  | 98 => ⟨S8192x2, .i32⟩
  | 99 => ⟨S_, .i1⟩
  | 100 => ⟨S8192, .i1⟩
  | 101 => ⟨S32x256, .i1⟩
  | 102 => ⟨S1x131072, .i32⟩
  | 103 => ⟨S131072, .i32⟩
  | 104 => ⟨S1x131072, .i32⟩
  | 105 => ⟨S131072, .i32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S131072x1, .i32⟩
  | 114 => ⟨S131072, .i32⟩
  | 115 => ⟨S_, .i32⟩
  | 116 => ⟨S131072, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072, .i32⟩
  | _ => ⟨S8192x256, .f32⟩

abbrev hbmTy0_1 (i : Nat) : BufTy := match i % 128 with
  | 0 => ⟨S_, .i32⟩
  | 1 => ⟨S131072, .i32⟩
  | 2 => ⟨S131072, .i32⟩
  | 3 => ⟨S131072, .i32⟩
  | 4 => ⟨S_, .f32⟩
  | 5 => ⟨S32x256x256, .f32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x1, .i32⟩
  | 29 => ⟨S131072x1, .i32⟩
  | 30 => ⟨S131072x3, .i32⟩
  | 31 => ⟨S_, .f32⟩
  | 32 => ⟨S131072, .f32⟩
  | 33 => ⟨S32x256x256, .f32⟩
  | 34 => ⟨S1x131072, .i32⟩
  | 35 => ⟨S131072, .i32⟩
  | 36 => ⟨S1x131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072, .i32⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S131072, .i32⟩
  | 60 => ⟨S_, .i32⟩
  | 61 => ⟨S131072, .i32⟩
  | 62 => ⟨S131072, .i32⟩
  | 63 => ⟨S131072, .i32⟩
  | 64 => ⟨S_, .f32⟩
  | 65 => ⟨S32x256x256, .f32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x1, .i32⟩
  | 89 => ⟨S131072x1, .i32⟩
  | 90 => ⟨S131072x3, .i32⟩
  | 91 => ⟨S_, .f32⟩
  | 92 => ⟨S131072, .f32⟩
  | 93 => ⟨S32x256x256, .f32⟩
  | 94 => ⟨S32x256x256, .f32⟩
  | 95 => ⟨S_, .i32⟩
  | 96 => ⟨S32, .i32⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S_, .i32⟩
  | 110 => ⟨S8192, .i32⟩
  | 111 => ⟨S32, .i32⟩
  | 112 => ⟨S1, .i32⟩
  | 113 => ⟨S31, .i32⟩
  | 114 => ⟨S32, .i32⟩
  | 115 => ⟨S_, .i32⟩
  | 116 => ⟨S1, .i32⟩
  | 117 => ⟨S_, .i32⟩
  | 118 => ⟨S32, .i32⟩
  | 119 => ⟨S_, .i32⟩
  | 120 => ⟨S_, .i32⟩
  | 121 => ⟨S32, .i32⟩
  | 122 => ⟨S_, .i32⟩
  | 123 => ⟨S8192, .i32⟩
  | 124 => ⟨S_, .i32⟩
  | 125 => ⟨S32, .i32⟩
  | 126 => ⟨S32, .i1⟩
  | 127 => ⟨S_, .i32⟩
  | _ => ⟨S8192x256, .f32⟩

abbrev hbmTy0_2 (i : Nat) : BufTy := match i % 128 with
  | 0 => ⟨S32, .i32⟩
  | 1 => ⟨S32, .i32⟩
  | 2 => ⟨S32, .i32⟩
  | 3 => ⟨S32x1, .i32⟩
  | 4 => ⟨S_, .i32⟩
  | 5 => ⟨S32, .i32⟩
  | 6 => ⟨S8192, .i32⟩
  | 7 => ⟨S_, .i32⟩
  | 8 => ⟨S_, .i32⟩
  | 9 => ⟨S8192, .i32⟩
  | 10 => ⟨S_, .i32⟩
  | 11 => ⟨S8192, .i32⟩
  | 12 => ⟨S8192, .i32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S1, .i32⟩
  | 22 => ⟨S_, .i32⟩
  | 23 => ⟨S8192x1, .i32⟩
  | 24 => ⟨S8192x1, .i1⟩
  | 25 => ⟨S1x1, .i32⟩
  | 26 => ⟨S8192x1, .i32⟩
  | 27 => ⟨S8192x1, .i1⟩
  | 28 => ⟨S8192x1, .i1⟩
  | 29 => ⟨S_, .i1⟩
  | 30 => ⟨S8192, .i1⟩
  | 31 => ⟨S8192x256, .i1⟩
  | 32 => ⟨S8192x256, .i1⟩
  | 33 => ⟨S_, .i1⟩
  | 34 => ⟨S8192x256, .i1⟩
  | 35 => ⟨S8192x256, .i1⟩
  | 36 => ⟨S8192x256, .f32⟩
  | 37 => ⟨S_, .f32⟩
  | 38 => ⟨S_, .f32⟩
  | 39 => ⟨S8192x256, .f32⟩
  | 40 => ⟨S8192x256, .f32⟩
  | _ => ⟨S8192x256, .f32⟩

abbrev hbmTy (i : Nat) : BufTy := match i / 128 with
  | 0 => hbmTy0_0 i
  | 1 => hbmTy0_1 i
  | 2 => hbmTy0_2 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_16 : Ref sig .tc := ⟨.hbm, 80, rfl⟩
abbrev main_v54 : Ref sig .tc := ⟨.hbm, 81, rfl⟩
abbrev main_c_17 : Ref sig .tc := ⟨.hbm, 82, rfl⟩
abbrev main_v55 : Ref sig .tc := ⟨.hbm, 83, rfl⟩
abbrev main_v56 : Ref sig .tc := ⟨.hbm, 84, rfl⟩
abbrev main_c_18 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_19 : Ref sig .tc := ⟨.hbm, 89, rfl⟩
abbrev main_v60 : Ref sig .tc := ⟨.hbm, 90, rfl⟩
abbrev main_v61 : Ref sig .tc := ⟨.hbm, 91, rfl⟩
abbrev main_c_20 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_21 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_22 : Ref sig .tc := ⟨.hbm, 106, rfl⟩
abbrev main_v74 : Ref sig .tc := ⟨.hbm, 107, rfl⟩
abbrev main_v75 : Ref sig .tc := ⟨.hbm, 108, rfl⟩
abbrev main_c_23 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_24 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_25 : Ref sig .tc := ⟨.hbm, 119, rfl⟩
abbrev main_v84 : Ref sig .tc := ⟨.hbm, 120, rfl⟩
abbrev main_v85 : Ref sig .tc := ⟨.hbm, 121, rfl⟩
abbrev main_c_26 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_27 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_28 : Ref sig .tc := ⟨.hbm, 132, rfl⟩
abbrev main_v94 : Ref sig .tc := ⟨.hbm, 133, rfl⟩
abbrev main_c_29 : Ref sig .tc := ⟨.hbm, 134, rfl⟩
abbrev main_v95 : Ref sig .tc := ⟨.hbm, 135, rfl⟩
abbrev main_v96 : Ref sig .tc := ⟨.hbm, 136, rfl⟩
abbrev main_c_30 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_31 : Ref sig .tc := ⟨.hbm, 141, rfl⟩
abbrev main_v100 : Ref sig .tc := ⟨.hbm, 142, rfl⟩
abbrev main_v101 : Ref sig .tc := ⟨.hbm, 143, rfl⟩
abbrev main_c_32 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_33 : Ref sig .tc := ⟨.hbm, 148, rfl⟩
abbrev main_v105 : Ref sig .tc := ⟨.hbm, 149, rfl⟩
abbrev main_v106 : Ref sig .tc := ⟨.hbm, 150, rfl⟩
abbrev main_c_34 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_35 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_36 : Ref sig .tc := ⟨.hbm, 166, rfl⟩
abbrev main_v120 : Ref sig .tc := ⟨.hbm, 167, rfl⟩
abbrev main_v121 : Ref sig .tc := ⟨.hbm, 168, rfl⟩
abbrev main_c_37 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_38 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_c_39 : Ref sig .tc := ⟨.hbm, 179, rfl⟩
abbrev main_v130 : Ref sig .tc := ⟨.hbm, 180, rfl⟩
abbrev main_v131 : Ref sig .tc := ⟨.hbm, 181, rfl⟩
abbrev main_c_40 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_41 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_42 : Ref sig .tc := ⟨.hbm, 192, rfl⟩
abbrev main_v140 : Ref sig .tc := ⟨.hbm, 193, rfl⟩
abbrev main_c_43 : Ref sig .tc := ⟨.hbm, 194, rfl⟩
abbrev main_v141 : Ref sig .tc := ⟨.hbm, 195, rfl⟩
abbrev main_v142 : Ref sig .tc := ⟨.hbm, 196, rfl⟩
abbrev main_c_44 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_c_45 : Ref sig .tc := ⟨.hbm, 201, rfl⟩
abbrev main_v146 : Ref sig .tc := ⟨.hbm, 202, rfl⟩
abbrev main_v147 : Ref sig .tc := ⟨.hbm, 203, rfl⟩
abbrev main_c_46 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_c_47 : Ref sig .tc := ⟨.hbm, 208, rfl⟩
abbrev main_v151 : Ref sig .tc := ⟨.hbm, 209, rfl⟩
abbrev main_v152 : Ref sig .tc := ⟨.hbm, 210, rfl⟩
abbrev main_c_48 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_49 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_c_50 : Ref sig .tc := ⟨.hbm, 223, rfl⟩
abbrev main_v163 : Ref sig .tc := ⟨.hbm, 224, rfl⟩
abbrev main_c_51 : Ref sig .tc := ⟨.hbm, 225, rfl⟩
abbrev main_call0_v0 : Ref sig .tc := ⟨.hbm, 226, rfl⟩
abbrev main_call0_v1 : Ref sig .tc := ⟨.hbm, 227, rfl⟩
abbrev main_v164 : Ref sig .tc := ⟨.hbm, 228, rfl⟩
abbrev main_c_52 : Ref sig .tc := ⟨.hbm, 229, rfl⟩
abbrev main_v165 : Ref sig .tc := ⟨.hbm, 230, rfl⟩
abbrev main_v166 : Ref sig .tc := ⟨.hbm, 231, rfl⟩
abbrev main_c_53 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_c_54 : Ref sig .tc := ⟨.hbm, 237, rfl⟩
abbrev main_v171 : Ref sig .tc := ⟨.hbm, 238, rfl⟩
abbrev main_v172 : Ref sig .tc := ⟨.hbm, 239, rfl⟩
abbrev main_call1_v0 : Ref sig .tc := ⟨.hbm, 240, rfl⟩
abbrev main_call1_v1 : Ref sig .tc := ⟨.hbm, 241, rfl⟩
abbrev main_v173 : Ref sig .tc := ⟨.hbm, 242, rfl⟩
abbrev main_c_55 : Ref sig .tc := ⟨.hbm, 243, rfl⟩
abbrev main_v174 : Ref sig .tc := ⟨.hbm, 244, rfl⟩
abbrev main_c_56 : Ref sig .tc := ⟨.hbm, 245, rfl⟩
abbrev main_v175 : Ref sig .tc := ⟨.hbm, 246, rfl⟩
abbrev main_call2_call0_c : Ref sig .tc := ⟨.hbm, 247, rfl⟩
abbrev main_call2_call0_v0 : Ref sig .tc := ⟨.hbm, 248, rfl⟩
abbrev main_v176 : Ref sig .tc := ⟨.hbm, 249, rfl⟩
abbrev main_c_57 : Ref sig .tc := ⟨.hbm, 250, rfl⟩
abbrev main_v177 : Ref sig .tc := ⟨.hbm, 251, rfl⟩
abbrev main_c_58 : Ref sig .tc := ⟨.hbm, 252, rfl⟩
abbrev main_v178 : Ref sig .tc := ⟨.hbm, 253, rfl⟩
abbrev main_v179 : Ref sig .tc := ⟨.hbm, 254, rfl⟩
abbrev main_c_59 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_c_60 : Ref sig .tc := ⟨.hbm, 260, rfl⟩
abbrev main_v184 : Ref sig .tc := ⟨.hbm, 261, rfl⟩
abbrev main_v185 : Ref sig .tc := ⟨.hbm, 262, rfl⟩
abbrev main_call3_call0_c : Ref sig .tc := ⟨.hbm, 263, rfl⟩
abbrev main_call3_call0_v0 : Ref sig .tc := ⟨.hbm, 264, rfl⟩
abbrev main_v186 : Ref sig .tc := ⟨.hbm, 265, rfl⟩
abbrev main_c_61 : Ref sig .tc := ⟨.hbm, 266, rfl⟩
abbrev main_v187 : Ref sig .tc := ⟨.hbm, 267, rfl⟩
abbrev main_v188 : Ref sig .tc := ⟨.hbm, 268, rfl⟩
abbrev main_call4_c : Ref sig .tc := ⟨.hbm, 269, rfl⟩
abbrev main_call4_v0 : Ref sig .tc := ⟨.hbm, 270, rfl⟩
abbrev main_call4_v1 : Ref sig .tc := ⟨.hbm, 271, rfl⟩
abbrev main_call4_c_0 : Ref sig .tc := ⟨.hbm, 272, rfl⟩
abbrev main_call4_v2 : Ref sig .tc := ⟨.hbm, 273, rfl⟩
abbrev main_call4_v3 : Ref sig .tc := ⟨.hbm, 274, rfl⟩
abbrev main_call4_v4 : Ref sig .tc := ⟨.hbm, 275, rfl⟩
abbrev main_call4_v5 : Ref sig .tc := ⟨.hbm, 276, rfl⟩
abbrev main_call4_c_1 : Ref sig .tc := ⟨.hbm, 277, rfl⟩
abbrev main_call4_c_2 : Ref sig .tc := ⟨.hbm, 278, rfl⟩
abbrev main_call4_v6 : Ref sig .tc := ⟨.hbm, 279, rfl⟩
abbrev main_call4_v7 : Ref sig .tc := ⟨.hbm, 280, rfl⟩
abbrev main_call4_v8 : Ref sig .tc := ⟨.hbm, 281, rfl⟩
abbrev main_call4_v9 : Ref sig .tc := ⟨.hbm, 282, rfl⟩
abbrev main_call4_v10 : Ref sig .tc := ⟨.hbm, 283, rfl⟩
abbrev main_call4_v11 : Ref sig .tc := ⟨.hbm, 284, rfl⟩
abbrev main_call4_c_3 : Ref sig .tc := ⟨.hbm, 285, rfl⟩
abbrev main_call4_v12 : Ref sig .tc := ⟨.hbm, 286, rfl⟩
abbrev main_call4_v13 : Ref sig .tc := ⟨.hbm, 287, rfl⟩
abbrev main_call4_v14 : Ref sig .tc := ⟨.hbm, 288, rfl⟩
abbrev main_call4_c_4 : Ref sig .tc := ⟨.hbm, 289, rfl⟩
abbrev main_call4_v15 : Ref sig .tc := ⟨.hbm, 290, rfl⟩
abbrev main_v189 : Ref sig .tc := ⟨.hbm, 291, rfl⟩
abbrev main_v190 : Ref sig .tc := ⟨.hbm, 292, rfl⟩
abbrev main_cst_62 : Ref sig .tc := ⟨.hbm, 293, rfl⟩
abbrev main_call5_v0 : Ref sig .tc := ⟨.hbm, 294, rfl⟩
abbrev main_call5_v1 : Ref sig .tc := ⟨.hbm, 295, rfl⟩
abbrev main_v191 : Ref sig .tc := ⟨.hbm, 296, rfl⟩

abbrev nD : Nat := 1
abbrev τ : Topo := Topo.v7x

variable {F : FTy → Type} [FloatOps F]
-- ==== Proof.Similarity.lean ====
/-
  The one function both programs are shown to compute. The two inputs are tables of rows of 256 numbers, cut into
  groups of 256 consecutive rows; entry `(r, q)` of the result is the inner product of row `r` of the first table with
  row `q` of `r`'s own group in the second.
-/
module

public import Idealize.ShloMosaic.PureOps.Ideal.Laws
public import Idealize.ShloMosaic.Lib.ValueIdxCore

@[expose] public section

noncomputable section

namespace Cert.Similarity

open Idealize.ShloMosaic Idealize.ShloMosaic.ValueIdx
open scoped BigOperators

/-- Row `q` of the group of 256 rows that row `r` lies in. -/
def mate {n : ℕ} (hn : 256 ∣ n) (r : Fin n) (q : Fin 256) : Fin n :=
  ⟨r.val / 256 * 256 + q.val, by obtain ⟨k, rfl⟩ := hn; have := r.isLt; have := q.isLt; omega⟩

/-- A mate's row number. -/
theorem mate_val {n : ℕ} (hn : 256 ∣ n) (r : Fin n) (q : Fin 256) : (mate hn r q).val = r.val / 256 * 256 + q.val := rfl

/-- Entry `(r, q)` of the similarity table: the inner product of row `r` of `x` with row `q` of its group in `y`. -/
def sim {n : ℕ} (hn : 256 ∣ n) (x y : FVec Ideal ⟨2, ![n, 256]⟩ .f32) (r : Fin n) (q : Fin 256) : EReal :=
  ∑ k : Fin 256, x (ix2 r k) * y (ix2 (mate hn r q) k)

end Cert.Similarity

end
-- ==== Proof.Block.lean ====
/-
  What one call of the kernel's body leaves in its output block of 2048 rows: the similarity table of its two input
  blocks. The body stores eight tiles of 256 rows, each the product of the same 256 rows of the first block with the
  transpose of those rows of the second; a tile is one group.
-/
module

public import proofs.«01_k».proof.Proof.Gen.KernelIdeal.Frame
public import proofs.«01_k».proof.Proof.Similarity
public import Idealize.ShloMosaic.Lib.Pipeline.ValueKit
public import Idealize.ShloMosaic.Lib.MatmulPlain

@[expose] public section

set_option maxRecDepth 16384

noncomputable section

namespace Cert.KernelIdeal.Block

open Cert.KernelIdeal Cert.KernelIdeal.Gen Cert.Similarity Idealize.ShloMosaic.ValueIdx
open Idealize.ShloMosaic hiding ix2 eq_ix2
open scoped BigOperators

/-- A block is a whole number of groups. -/
theorem dvd_2048 : 256 ∣ 2048 := ⟨8, rfl⟩

/-- The product that one tile stores: the first operand times the second's transpose, accumulated on zeros. -/
abbrev product (a b : Vec Ideal S256x256 .f32) : FVec Ideal S256x256 .f32 :=
  matmul (φ₁ := .f32) (φ₂ := .f32) dot_S256x256_S256x256_S256x256_1_1_0_0_n_n none a b (constant S256x256 .f32 0x00000000#32)

/-- Entry `(r, q)` of that product is the inner product of row `r` of `a` with row `q` of `b`. -/
theorem product_apply (a b : Vec Ideal S256x256 .f32) (r q : Fin 256) :
    product a b (ix2 r q) = ∑ k : Fin 256, a (ix2 r k) * b (ix2 q k) :=
  (Ideal.matmul_transposedRhs_apply (M := 256) (K := 256) (N := 256) (φ₁ := .f32) (φ₂ := .f32) none a b
    (constant S256x256 .f32 0x00000000#32) r q).trans (by
      show Ideal.ofBits .f32 0x00000000#32 + _ = _
      rw [Ideal.ofBits_zero_f32, zero_add])

/-- A tile that starts at row `p`, a multiple of 256, holds the similarity table of the two blocks at the rows it covers. -/
theorem tile_apply (x0 x1 : Vec Ideal S2048x256 .f32) (p : ℕ) (hp : 256 ∣ p)
    (inb : ∀ a, (![p, 0] : Fin 2 → ℕ) a + S256x256.size a ≤ S2048x256.size a) (y : S2048x256.Idx) (x : S256x256.Idx)
    (h0 : (y 0).val = p + (x 0).val) (h1 : (y 1).val = (x 1).val) :
    product (View.ld x0 (Rect.unit (s := S2048x256) ![p, 0] S256x256.size inb))
        (View.ld x1 (Rect.unit (s := S2048x256) ![p, 0] S256x256.size inb)) x
      = sim dvd_2048 x0 x1 (y 0) (y 1) := by
  obtain ⟨g, rfl⟩ := hp
  have hx0 : (x 0).val < 256 := (x 0).isLt
  refine (congrArg (product _ _) (eq_ix2 x)).trans ((product_apply _ _ (x 0) (x 1)).trans ?_)
  refine Finset.sum_congr rfl fun k _ => congrArg₂ (· * ·) ?_ ?_
  · refine View.ld_unit_apply_of x0 _ _ inb _ _ fun a => ?_
    match a with
    | ⟨0, _⟩ => exact h0
    | ⟨1, _⟩ => exact (Nat.zero_add _).symm
  · refine View.ld_unit_apply_of x1 _ _ inb _ _ fun a => ?_
    match a with
    | ⟨0, _⟩ =>
      show (y 0).val / 256 * 256 + (y 1).val = 256 * g + (x 1).val
      omega
    | ⟨1, _⟩ => exact (Nat.zero_add _).symm

/-- The body's output block, at any of its entries, is the similarity table of its two input blocks. -/
theorem out_apply (x0 x1 : Vec Ideal S2048x256 .f32) (y : S2048x256.Idx) :
    out0_2 x0 x1 y = sim dvd_2048 x0 x1 (y 0) (y 1) := by
  unfold out0_2
  canon_tiles x h
  all_goals
    refine tile_apply x0 x1 _ ?_ _ y x ?_ ?_
    · decide
    · omega
    · omega

end Cert.KernelIdeal.Block

end
-- ==== Proof.KernelValue.lean ====
/-
  What the kernel's result array holds after a run: the similarity table of the two argument tables, entry by entry.
  Grid point `t` handles rows `2048 t … 2048 t + 2047`, which is eight whole groups, so the table of its blocks is the
  arguments' table at those rows; the four points' blocks fill the array.
-/
module

public import proofs.«01_k».proof.Proof.Gen.KernelIdeal.Value
public import proofs.«01_k».proof.Proof.Block

@[expose] public section

set_option maxRecDepth 16384

noncomputable section

namespace Cert.KernelIdeal.Result

open Cert.KernelIdeal Cert.KernelIdeal.Gen Cert.Similarity Idealize.ShloMosaic.TcCoe Idealize.ShloMosaic.ValueIdx
open Idealize.ShloMosaic hiding ix2 eq_ix2
open scoped BigOperators

/-- The arrays are a whole number of groups. -/
theorem dvd_8192 : 256 ∣ 8192 := ⟨32, rfl⟩

/-- Every window's block at point `t` is block row `t`, the whole width. -/
theorem index_eq : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

variable (m : (ℓ : Loc nD τ sig) → Buf (Elt Ideal) ℓ)

/-- The first input's block at point `t` is rows `2048 t …` of the first argument. -/
theorem block_s (c : Dev nD) (t : Fin cfg0.N) (j : S2048x256.Idx) (i : S8192x256.Idx)
    (h0 : (i 0).val = t.val * 2048 + (j 0).val) (h1 : (i 1).val = (j 1).val) :
    iblk m c 0 t j = m ((c : Thread nD τ).loc main_arg0) i := by
  obtain ⟨e0, -, -⟩ := index_eq t
  blk_ext [iblk, V, e0]

/-- The second input's block at point `t` is rows `2048 t …` of the second table, the fourth argument. -/
theorem block_t (c : Dev nD) (t : Fin cfg0.N) (j : S2048x256.Idx) (i : S8192x256.Idx)
    (h0 : (i 0).val = t.val * 2048 + (j 0).val) (h1 : (i 1).val = (j 1).val) :
    iblk m c 1 t j = m ((c : Thread nD τ).loc main_arg3) i := by
  obtain ⟨-, e1, -⟩ := index_eq t
  blk_ext [iblk, V, e1]

/-- The table of the two blocks at point `t` is the arguments' table at the rows the blocks were cut from. -/
theorem sim_block (c : Dev nD) (t : Fin cfg0.N) (j : S2048x256.Idx) (i : S8192x256.Idx)
    (h0 : (i 0).val = t.val * 2048 + (j 0).val) (h1 : (i 1).val = (j 1).val) :
    sim Block.dvd_2048 (iblk m c 0 t) (iblk m c 1 t) (j 0) (j 1)
      = sim dvd_8192 (m ((c : Thread nD τ).loc main_arg0)) (m ((c : Thread nD τ).loc main_arg3)) (i 0) (i 1) := by
  refine Finset.sum_congr rfl fun k _ => congrArg₂ (· * ·) ?_ ?_
  · exact block_s m c t _ _ h0 rfl
  · refine block_t m c t _ _ ?_ rfl
    show (i 0).val / 256 * 256 + (i 1).val = t.val * 2048 + ((j 0).val / 256 * 256 + (j 1).val)
    omega

/-- The result array after the run is the similarity table of the two argument tables. -/
theorem final (c : Dev nD) :
    (dats m 0 c).arrAt 2 cfg0.N
      = fun i : S8192x256.Idx => sim dvd_8192 (m ((c : Thread nD τ).loc main_arg0)) (m ((c : Thread nD τ).loc main_arg3)) (i 0) (i 1) := by
  refine (dats m 0 c).arrAt_eq_of_covers 2 _ (by decide +kernel) fun t hf y => ?_
  obtain ⟨-, -, e2⟩ := index_eq t
  have h0 : ((((cfg0.win 2).blk t).view.emb y) 0 : ℕ) = t.val * 2048 + (y 0 : ℕ) := by blk_simp [e2]
  have h1 : ((((cfg0.win 2).blk t).view.emb y) 1 : ℕ) = (y 1 : ℕ) := by blk_simp [e2]
  blk_simp
  rw [after0_2]
  exact (Block.out_apply _ _ _).trans (sim_block m c t y _ h0 h1)

end Cert.KernelIdeal.Result

end
-- ==== Proof.Words.lean ====
/-
  The reference places row `i` of a table at slot `i - 256 b` of group `b`, where `b` is the row's batch word, and it
  writes that pair of numbers as two index words (each with jnp's wrap of negative words). Where the batch word of row
  `i` is `i / 256`, the pair is `(i / 256, i % 256)`.
-/
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.Words

open Cert.ReferenceIdeal Cert.ReferenceIdeal.Facts₀ Idealize.ShloMosaic

/-- The batch words of rows that lie in equal groups of 256 consecutive rows. -/
def Uniform (b : IVec S8192 32) : Prop := ∀ i : Fin 8192, b (ix1 i) = BitVec.ofNat 32 (i.val / 256)

/-- The slot of each row within its group, as the reference computes it. -/
def slot (b : IVec S8192 32) : IVec S8192 32 :=
  subi (iotaInDim S8192 32 0) (muli b (broadcastInDim S8192 ![] bcast_S_S8192 (constantI S_ 32 256#32)))

/-- A vector of words with `n` added to the negative ones. -/
def wrap (n : BitVec 32) (x : IVec S8192 32) : IVec S8192 32 :=
  select (cmpi .slt x (broadcastInDim S8192 ![] bcast_S_S8192 (constantI S_ 32 0#32)))
    (addi x (broadcastInDim S8192 ![] bcast_S_S8192 (constantI S_ 32 n))) x

/-- The reference's table of index words: row `i` holds the group and the slot of row `i`. -/
def words (b : IVec S8192 32) : IVec S8192x2 32 :=
  concatenate S8192x2 1 [⟨S8192x1, broadcastInDim S8192x1 ![0] bcast_S8192_S8192x1_0 (wrap 32#32 b)⟩,
    ⟨S8192x1, broadcastInDim S8192x1 ![0] bcast_S8192_S8192x1_0 (wrap 256#32 (slot b))⟩] concatenates_S8192x1_S8192x1_S8192x2_d1

/-- A word that holds a small natural is kept by the wrap. -/
theorem wrap_apply (n : BitVec 32) (x : IVec S8192 32) (i : Fin 8192) (v : ℕ) (hv : v < 8192) (hx : x (ix1 i) = BitVec.ofNat 32 v) :
    wrap n x (ix1 i) = BitVec.ofNat 32 v := by
  unfold wrap
  pointwise
  rw [hx]
  exact Routing.wrap_of_lt _ _ (by
    rw [BitVec.toNat_ofNat, Nat.mod_eq_of_lt (by omega)]
    show v < 2147483648
    omega)

/-- The slot of row `i` is `i % 256`. -/
theorem slot_apply (b : IVec S8192 32) (hb : Uniform b) (i : Fin 8192) : slot b (ix1 i) = BitVec.ofNat 32 (i.val % 256) := by
  unfold slot
  pointwise
  rw [hb i]
  have hi := i.isLt
  apply BitVec.eq_of_toNat_eq
  show (BitVec.ofNat 32 i.val - BitVec.ofNat 32 (i.val / 256) * 256#32).toNat = (BitVec.ofNat 32 (i.val % 256)).toNat
  simp only [BitVec.toNat_sub, BitVec.toNat_mul, BitVec.toNat_ofNat]
  omega

/-- The first index word of row `i` is the number of its group, `i / 256`. -/
theorem words_group (b : IVec S8192 32) (hb : Uniform b) (i : Fin 8192) : words b (ix2 i 0) = BitVec.ofNat 32 (i.val / 256) := by
  unfold words
  pointwise
  exact wrap_apply _ _ i _ (by omega) (hb i)

/-- The second index word of row `i` is its slot in the group, `i % 256`. -/
theorem words_slot (b : IVec S8192 32) (hb : Uniform b) (i : Fin 8192) : words b (ix2 i 1) = BitVec.ofNat 32 (i.val % 256) := by
  unfold words
  pointwise
  exact wrap_apply _ _ i _ (by omega) (slot_apply b hb i)

end Cert.ReferenceIdeal.Words

end
-- ==== Proof.Dense.lean ====
/-
  What the reference's scatters leave under uniform batch words: row `256 g + s` of a table lands in slot `s` of group
  `g`, so the batched table holds every row once, and every slot of the mask is marked.
-/
module

public import proofs.«01_k».proof.Proof.Words
public import Idealize.ShloMosaic.Lib.Routing.OpsSet

@[expose] public section

set_option maxRecDepth 16384

noncomputable section

namespace Cert.ReferenceIdeal.Dense

open Cert.ReferenceIdeal Cert.ReferenceIdeal.Facts₀ Cert.ReferenceIdeal.Words Idealize.ShloMosaic

/-- The row of a table that slot `s` of group `g` holds. -/
def row (g : Fin 32) (s : Fin 256) : Fin 8192 := ⟨256 * g.val + s.val, by omega⟩

/-- The batched table: the rows of `x` set at their groups and slots in a table of zeros. -/
def dense (b : IVec S8192 32) (x : FVec Ideal S8192x256 .f32) : FVec Ideal S32x256x256 .f32 :=
  Host.scatter scatter_S32x256x256_S8192x2_S8192x256_1_01_01_1 (fun _ u => u)
    (broadcastInDim S32x256x256 ![] bcast_S_S32x256x256 (constant S_ .f32 0x00000000#32)) (words b) x

/-- The mask: true set at every row's group and slot in a table of false. -/
def mask (b : IVec S8192 32) : IVec S32x256 1 :=
  Host.scatter scatter_S32x256_S8192x2_S8192_n_01_01_1 (fun _ u => u)
    (broadcastInDim S32x256 ![] bcast_S_S32x256 (constantI S_ 1 0#1)) (words b)
    (broadcastInDim S8192 ![] bcast_S_S8192 (constantI S_ 1 1#1))

/-- The word of a natural below 8192, read signed, is that natural. -/
theorem toInt_ofNat (v : ℕ) (hv : v < 8192) : (BitVec.ofNat 32 v).toInt = (v : Int) := by
  rw [BitVec.toInt_eq_toNat_of_lt] <;> rw [BitVec.toNat_ofNat, Nat.mod_eq_of_lt (by omega)]
  omega

/-- Entry `(i, k)` of the table lands at group `i / 256`, slot `i % 256`, column `k`, and nowhere else. -/
theorem lands_table (b : IVec S8192 32) (hb : Uniform b) (i : Fin 8192) (k : Fin 256) (g : Fin 32) (s l : Fin 256) :
    scatter_S32x256x256_S8192x2_S8192x256_1_01_01_1.resultIdx? (ix2 i k) (words b) = some (ix3 g s l)
      ↔ i = row g s ∧ k = l := by
  have e0 : scatter_S32x256x256_S8192x2_S8192x256_1_01_01_1.siIdx (ix2 i k) ⟨0, by decide⟩ = ix2 i 0 := by
    funext a; match a with
    | ⟨0, _⟩ => rfl
    | ⟨1, _⟩ => rfl
  have e1 : scatter_S32x256x256_S8192x2_S8192x256_1_01_01_1.siIdx (ix2 i k) ⟨1, by decide⟩ = ix2 i 1 := by
    funext a; match a with
    | ⟨0, _⟩ => rfl
    | ⟨1, _⟩ => rfl
  have h0 : scatter_S32x256x256_S8192x2_S8192x256_1_01_01_1.start (ix2 i k) (words b) 0 = ((i.val / 256 : ℕ) : Int) :=
    (congrArg (fun j => (words b j).toInt) e0).trans (by
      rw [words_group b hb]; exact toInt_ofNat _ (by omega))
  have h1 : scatter_S32x256x256_S8192x2_S8192x256_1_01_01_1.start (ix2 i k) (words b) 1 = ((i.val % 256 : ℕ) : Int) :=
    (congrArg (fun j => (words b j).toInt) e1).trans (by
      rw [words_slot b hb]; exact toInt_ofNat _ (by omega))
  have h2 : scatter_S32x256x256_S8192x2_S8192x256_1_01_01_1.start (ix2 i k) (words b) 2 = 0 := rfl
  have w0 : scatter_S32x256x256_S8192x2_S8192x256_1_01_01_1.window (ix2 i k) 0 = 0 := rfl
  have w1 : scatter_S32x256x256_S8192x2_S8192x256_1_01_01_1.window (ix2 i k) 1 = 0 := rfl
  have w2 : scatter_S32x256x256_S8192x2_S8192x256_1_01_01_1.window (ix2 i k) 2 = k.val := rfl
  rw [Routing.resultIdx?_eq_some]
  constructor
  · intro h
    have a0 : (_ : Int) = ((g.val : ℕ) : Int) := h 0
    have a1 : (_ : Int) = ((s.val : ℕ) : Int) := h 1
    have a2 : (_ : Int) = ((l.val : ℕ) : Int) := h 2
    rw [h0, w0] at a0
    rw [h1, w1] at a1
    rw [h2, w2] at a2
    refine ⟨Fin.ext ?_, Fin.ext ?_⟩
    · show i.val = 256 * g.val + s.val
      omega
    · omega
  · rintro ⟨rfl, rfl⟩ a
    have hr : (row g s).val = 256 * g.val + s.val := rfl
    match a with
    | ⟨0, _⟩ => exact (congrArg₂ (· + ·) h0 (congrArg Nat.cast w0)).trans (by show _ = (g.val : Int); omega)
    | ⟨1, _⟩ => exact (congrArg₂ (· + ·) h1 (congrArg Nat.cast w1)).trans (by show _ = (s.val : Int); omega)
    | ⟨2, _⟩ => exact (congrArg₂ (· + ·) h2 (congrArg Nat.cast w2)).trans (by show _ = (k.val : Int); omega)

/-- Slot `s` of group `g` of the batched table holds row `256 g + s`. -/
theorem dense_apply (b : IVec S8192 32) (hb : Uniform b) (x : FVec Ideal S8192x256 .f32) (g : Fin 32) (s l : Fin 256) :
    dense b x (ix3 g s l) = x (ix2 (row g s) l) := by
  refine Routing.scatter_set_hit _ _ _ _ _ _ (fun j hj => ?_) (ix2 (row g s) l) ((lands_table b hb _ _ g s l).2 ⟨rfl, rfl⟩)
  idx_vars j
  obtain ⟨rfl, rfl⟩ := (lands_table b hb _ _ g s l).1 hj
  rfl

/-- Row `i`'s mark lands at group `i / 256`, slot `i % 256`. -/
theorem lands_mask (b : IVec S8192 32) (hb : Uniform b) (g : Fin 32) (s : Fin 256) :
    scatter_S32x256_S8192x2_S8192_n_01_01_1.resultIdx? (ix1 (row g s)) (words b) = some (ix2 g s) := by
  have e0 : scatter_S32x256_S8192x2_S8192_n_01_01_1.siIdx (ix1 (row g s)) ⟨0, by decide⟩ = ix2 (row g s) 0 := by
    funext a; match a with
    | ⟨0, _⟩ => rfl
    | ⟨1, _⟩ => rfl
  have e1 : scatter_S32x256_S8192x2_S8192_n_01_01_1.siIdx (ix1 (row g s)) ⟨1, by decide⟩ = ix2 (row g s) 1 := by
    funext a; match a with
    | ⟨0, _⟩ => rfl
    | ⟨1, _⟩ => rfl
  have hr : (row g s).val = 256 * g.val + s.val := rfl
  have h0 : scatter_S32x256_S8192x2_S8192_n_01_01_1.start (ix1 (row g s)) (words b) 0 = (g.val : Int) :=
    (congrArg (fun j => (words b j).toInt) e0).trans (by
      rw [words_group b hb, toInt_ofNat _ (by omega)]; omega)
  have h1 : scatter_S32x256_S8192x2_S8192_n_01_01_1.start (ix1 (row g s)) (words b) 1 = (s.val : Int) :=
    (congrArg (fun j => (words b j).toInt) e1).trans (by
      rw [words_slot b hb, toInt_ofNat _ (by omega)]; omega)
  refine (Routing.resultIdx?_eq_some _ _ _ _).2 fun a => ?_
  match a with
  | ⟨0, _⟩ => exact (congrArg₂ (· + ·) h0 (rfl : ((_ : ℕ) : Int) = 0)).trans (add_zero _)
  | ⟨1, _⟩ => exact (congrArg₂ (· + ·) h1 (rfl : ((_ : ℕ) : Int) = 0)).trans (add_zero _)

/-- Every slot of the mask is marked. -/
theorem mask_apply (b : IVec S8192 32) (hb : Uniform b) (j : S32x256.Idx) : mask b j = 1#1 := by
  idx_vars j
  exact Routing.scatter_set_hit _ _ _ _ _ _ (fun _ _ => by pointwise) _ (lands_mask b hb _ _)

end Cert.ReferenceIdeal.Dense

end
-- ==== Proof.ReferenceValue.lean ====
/-
  What the reference computes under uniform batch words: each entry is the product of a row of the first table with a
  row of the second in the same group of 256.
-/
module

public import proofs.«01_k».proof.Proof.Dense
public import proofs.«01_k».proof.Proof.Similarity
public import Idealize.ShloMosaic.Lib.Pointwise.IndexBridge

@[expose] public section

set_option maxRecDepth 16384

noncomputable section

namespace Cert.ReferenceIdeal.Result

open Cert.ReferenceIdeal Cert.ReferenceIdeal.Facts₀ Cert.ReferenceIdeal.Words Cert.ReferenceIdeal.Dense
open Cert.Similarity Idealize.ShloMosaic

/-- 256 divides the number of rows. -/
theorem dvd_8192 : 256 ∣ 8192 := by decide

/-- The mask's rows taken at the words `idx`, with true wherever a word is no group. -/
def taken (bt : IVec S8192 32) (idx : IVec S8192x1 32) : IVec S8192x256 1 :=
  select (broadcastInDim S8192x256 ![0] bcast_S8192_S8192x256_0
      (Host.reduce IntOp.andi
        (andi (cmpi .sge idx (broadcastInDim S8192x1 ![] bcast_S_S8192x1 (constantI S_ 32 0#32)))
          (cmpi .sle idx (broadcastInDim S8192x1 ![0, 1] bcast_S1x1_S8192x1_0_1
            (broadcastInDim S1x1 ![1] bcast_S1_S1x1_1 (constantI S1 32 31#32)))))
        (constantI S_ 1 1#1) reducesTo_S8192x1_S8192_d1 h_S_))
    (Host.gather gather_S32x256_S8192x1_S8192x256_1_0_n_n_0_1_1256 (mask bt) idx)
    (broadcastInDim S8192x256 ![] bcast_S_S8192x256 (constantI S_ 1 1#1))

/-- The product of the two batched tables, group by group. -/
def products (x y : FVec Ideal S32x256x256 .f32) : FVec Ideal S32x256x256 .f32 :=
  Host.dotGeneral dot_S32x256x256_S32x256x256_S32x256x256_2_2_1_1_0_0 none x y

/-- The reference's result, from the two tables, their batch words and the words that repeat the mask. -/
def result (xs : FVec Ideal S8192x256 .f32) (bs : IVec S8192 32) (xt : FVec Ideal S8192x256 .f32) (bt : IVec S8192 32)
    (idx : IVec S8192x1 32) : FVec Ideal S8192x256 .f32 :=
  select (taken bt idx)
    (shapeCast _ (products (dense bs xs) (dense bt xt)) shapeCasts_S32x256x256_S8192x256)
    (broadcastInDim S8192x256 ![] bcast_S_S8192x256 (id (constant S_ .f32 0x00000000#32)))

/-- The mask that was taken is true everywhere, whatever words repeat it: every slot is marked, and what fills a word
    that is no group is true. -/
theorem taken_apply (bt : IVec S8192 32) (hb : Uniform bt) (idx : IVec S8192x1 32) (j : S8192x256.Idx) :
    taken bt idx j = 1#1 := by
  have hf : broadcastInDim S8192x256 ![] bcast_S_S8192x256 (constantI S_ 1 1#1) j = 1#1 := by pointwise
  have hg : Host.gather gather_S32x256_S8192x1_S8192x256_1_0_n_n_0_1_1256 (mask bt) idx j = 1#1 := mask_apply bt hb _
  show (if _ then _ else _) = _
  rw [hf, hg, ite_self]

/-- Entry `(g, s, q)` of the products is row `s` of the first table times row `q` of the second, both of group `g`. -/
theorem products_apply (x y : FVec Ideal S32x256x256 .f32) (g : Fin 32) (s q : Fin 256) :
    products x y (ix3 g s q) = ∑ k : Fin 256, x (ix3 g s k) * y (ix3 g q k) := by
  unfold products
  pointwise

/-- Reading the products as rows, entry `(r, q)` is the one of group `r / 256`, slot `r % 256`. -/
theorem rows_apply (p : FVec Ideal S32x256x256 .f32) (r : Fin 8192) (q : Fin 256) :
    shapeCast S8192x256 p shapeCasts_S32x256x256_S8192x256 (ix2 r q)
      = p (ix3 ⟨r.val / 256, by omega⟩ ⟨r.val % 256, by omega⟩ q) := by
  pointwise

/-- The reference's result: every row of the first table times every row of the second in its group. -/
theorem result_apply (xs : FVec Ideal S8192x256 .f32) (bs : IVec S8192 32) (xt : FVec Ideal S8192x256 .f32)
    (bt : IVec S8192 32) (idx : IVec S8192x1 32) (hs : Uniform bs) (ht : Uniform bt) :
    result xs bs xt bt idx = fun i : S8192x256.Idx => sim dvd_8192 xs xt (i 0) (i 1) := by
  funext i
  idx_vars i
  have h : result xs bs xt bt idx (ix2 i0 i1)
      = shapeCast S8192x256 (products (dense bs xs) (dense bt xt)) shapeCasts_S32x256x256_S8192x256 (ix2 i0 i1) := by
    show (if _ then _ else _) = _
    rw [taken_apply bt ht]
    exact if_pos rfl
  rw [h, rows_apply, products_apply]
  refine Finset.sum_congr rfl fun k _ => ?_
  rw [dense_apply bs hs, dense_apply bt ht, ix2_eq_valueIdx, ix2_eq_valueIdx]
  refine congrArg₂ (· * ·) (congrArg (fun a => xs (ValueIdx.ix2 a k)) (Fin.ext ?_))
    (congrArg (fun a => xt (ValueIdx.ix2 a k)) (Fin.ext ?_))
  · show 256 * (i0.val / 256) + i0.val % 256 = i0.val
    omega
  · show 256 * (i0.val / 256) + i1.val = i0.val / 256 * 256 + i1.val
    omega

end Cert.ReferenceIdeal.Result

end
-- ==== Proof.ReferenceRun.lean ====
/-
  The reference's run: from any memory it ends with its arguments unchanged and every counter at zero, and where the
  batch words are uniform its result is the similarity table of the two tables of features.
-/
module

public import proofs.«01_k».proof.Proof.ReferenceValue
public import proofs.«01_k».proof.Proof.Gen.ReferenceIdeal.Run
public import Idealize.ShloMosaic.Lib.Quiescent

@[expose] public section

set_option maxRecDepth 16384

noncomputable section

namespace Cert.ReferenceIdeal.Result

open Cert.ReferenceIdeal Cert.ReferenceIdeal.Words Cert.Similarity Idealize.ShloMosaic Idealize.SL.Sem
open Idealize.ShloMosaic.StableHlo (launchContents)

/-- The reference runs, and every device ends with its argument arrays unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun r hr => ⟨fun c => (hr c).2, sem_eq_zero_of_no_sems rfl r.2⟩)
    (Cert.ReferenceIdeal.Value.run m ρ)

/-- The reference runs, and every device on which both vectors of batch words are uniform ends with the similarity
    table of its two tables of features. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      Uniform (m ((c.tc : Thread nD τ).loc main_arg2)) → Uniform (m ((c.tc : Thread nD τ).loc main_arg5)) →
      r.2.mem ((c.tc : Thread nD τ).loc main_v191) = fun i : S8192x256.Idx =>
        sim dvd_8192 (m ((c.tc : Thread nD τ).loc main_arg0)) (m ((c.tc : Thread nD τ).loc main_arg3)) (i 0) (i 1)) :=
  (θ_run _ _ _).mono (fun r hr c hs ht => (hr c).1.trans (result_apply
      (m ((c.tc : Thread nD τ).loc main_arg0)) (m ((c.tc : Thread nD τ).loc main_arg2))
      (m ((c.tc : Thread nD τ).loc main_arg3)) (m ((c.tc : Thread nD τ).loc main_arg5))
      (Cert.ReferenceIdeal.Value.res_main_call4_v5 (launchContents m c)) hs ht))
    (Cert.ReferenceIdeal.Value.run m ρ)

end Cert.ReferenceIdeal.Result

end
-- ==== Proof.Precondition.lean ====
/-
  What the precondition says of a launch: both vectors of batch words put the rows in equal groups of 256.
-/
module

public import proofs.«01_k».proof.Pre_uniform
public import proofs.«01_k».proof.Proof.Gen.Pre_uniform
public import proofs.«01_k».proof.Proof.Words

@[expose] public section

set_option maxRecDepth 16384

noncomputable section

namespace Cert.Precondition

open Cert.Pre_uniform Cert.Pre_uniform.Facts Idealize.ShloMosaic
open Cert.ReferenceIdeal.Words (Uniform)

/-- The group numbers written out as the precondition writes them: 256 copies of each. -/
def groups : IVec S8192 32 := shapeCast S8192 (iotaInDim S32x256 32 0) shapeCasts_S32x256_S8192

/-- Place `i` of the group numbers holds `i / 256`. -/
theorem groups_apply (i : Fin 8192) : groups (ix1 i) = BitVec.ofNat 32 (i.val / 256) := by
  unfold groups
  pointwise

/-- Words that compare equal to the group numbers everywhere are uniform. -/
theorem uniform_of_eq (b : IVec S8192 32) (h : ∀ i : Fin 8192, cmpi .eq b groups (ix1 i) = 1#1) : Uniform b := by
  intro i
  rw [← groups_apply i]
  by_contra hne
  have hi : BitVec.ofBool (b (ix1 i) == groups (ix1 i)) = 1#1 := h i
  rw [beq_eq_false_iff_ne.2 hne] at hi
  exact absurd hi (by decide)

variable (x0 : FVec Ideal S8192x256 .f32) (x1 : IVec S2x131072 32) (x2 : IVec S8192 32) (x3 : FVec Ideal S8192x256 .f32)
  (x4 : IVec S2x131072 32) (x5 : IVec S8192 32) (x6 x7 : IVec S_ 32)

/-- The precondition's first row compares the first batch words with the group numbers. -/
theorem fn_first (i : Fin 8192) : fn x0 x1 x2 x3 x4 x5 x6 x7 (ix2 0 i) = cmpi .eq x2 groups (ix1 i) := by
  unfold fn groups
  pointwise

/-- The precondition's second row compares the second batch words with the group numbers. -/
theorem fn_second (i : Fin 8192) : fn x0 x1 x2 x3 x4 x5 x6 x7 (ix2 1 i) = cmpi .eq x5 groups (ix1 i) := by
  unfold fn groups
  pointwise

/-- Where the precondition is true everywhere, both vectors of batch words are uniform. -/
theorem uniform (h : fn x0 x1 x2 x3 x4 x5 x6 x7 = fun _ => 1#1) : Uniform x2 ∧ Uniform x5 :=
  ⟨uniform_of_eq x2 fun i => (fn_first x0 x1 x2 x3 x4 x5 x6 x7 i).symm.trans (congrFun h _),
    uniform_of_eq x5 fun i => (fn_second x0 x1 x2 x3 x4 x5 x6 x7 i).symm.trans (congrFun h _)⟩

end Cert.Precondition

end
-- ==== Proof.lean ====
/-
  The proof of everything the certificate claims: the kernel, its ideal reading and the reference run, leave their
  arguments unchanged and every counter at zero, and under uniform batch words the two ideal programs end with equal
  results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_uniform
public import proofs.«01_k».proof.Proof.Gen.KernelIdeal.Value
public import proofs.«01_k».proof.Proof.Gen.ReferenceIdeal.Run
public import proofs.«01_k».proof.Proof.KernelValue
public import proofs.«01_k».proof.Proof.ReferenceRun
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem

/-- Under the precondition the kernel and the reference, read over the extended reals, end with the same table: entry
    `(r, q)` is the inner product of row `r` of the first table with row `q` of its group in the second. -/
theorem algebraic : Cert.algebraic_KernelIdeal_ReferenceIdeal_pre_uniform := by
  intro m g m' g' hpre hagree
  refine ⟨fun c => fun i : Cert.KernelIdeal.S8192x256.Idx => Cert.Similarity.sim Cert.KernelIdeal.Result.dvd_8192
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3)) (i 0) (i 1), ?_, ?_⟩
  · exact (θ_run _ _ _).mono
      (fun r hr c => ⟨(hr c).1.trans (Cert.KernelIdeal.Result.final m c), (hr c).2⟩)
      (Cert.KernelIdeal.Value.run_blocks m g)
  · refine (θ_run _ _ _).mono (fun r hr c => ?_) ((θ_run_and (Cert.ReferenceIdeal.Result.value m' g')
      (Cert.ReferenceIdeal.Result.frame m' g')))
    obtain ⟨hv, hf⟩ := hr
    obtain ⟨a0, a1, a2, a3, a4, a5, a6, a7⟩ := hagree c
    obtain ⟨hs, ht⟩ := Cert.Precondition.uniform _ _ _ _ _ _ _ _ (hpre c)
    refine ⟨(hv c (a2 ▸ hs) (a5 ▸ ht)).trans ?_, hf.1 c⟩
    rw [a0, a3]

/-- Every claim of the certificate. -/
theorem claim : Cert.Claim := ⟨Cert.Kernel.Gen.facts, Cert.KernelIdeal.Gen.facts, Cert.ReferenceIdeal.Gen.facts, Cert.Pre_uniform.Gen.facts,
  fun m g _ => Cert.Kernel.Gen.frame m g,
  fun m g _ => Cert.KernelIdeal.Gen.frame m g,
  fun m g _ => Cert.KernelIdeal.Gen.frame m g,
  fun m g _ => Cert.ReferenceIdeal.Result.frame m g,
  fun m g _ => Cert.ReferenceIdeal.Result.frame m g,
  trivial,
  algebraic⟩

end Cert.Proof

end
